-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_inf [hPre_below_inf : Cert.Pre_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_inf [hPre_below_inf : Cert.Pre_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_below_inf [hKernelIdeal : Cert.KernelIdeal.Facts] [hPre_below_inf : Cert.Pre_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_below_inf [hReferenceIdeal : Cert.ReferenceIdeal.Facts] [hPre_below_inf : Cert.Pre_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_below_inf [hKernelIdeal : Cert.KernelIdeal.Facts] [hReferenceIdeal : Cert.ReferenceIdeal.Facts] [hPre_below_inf : Cert.Pre_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_below_inf : Cert.Pre_below_inf.Facts),
    quiescent_Kernel (hKernel := hKernel)
    ∧ quiescent_KernelIdeal (hKernelIdeal := hKernelIdeal)
    ∧ quiescent_KernelIdeal_pre_below_inf (hKernelIdeal := hKernelIdeal) (hPre_below_inf := hPre_below_inf)
    ∧ quiescent_ReferenceIdeal (hReferenceIdeal := hReferenceIdeal)
    ∧ quiescent_ReferenceIdeal_pre_below_inf (hReferenceIdeal := hReferenceIdeal) (hPre_below_inf := hPre_below_inf)
    ∧ preserves_Kernel_KernelIdeal
    ∧ algebraic_KernelIdeal_ReferenceIdeal_pre_below_inf (hKernelIdeal := hKernelIdeal) (hReferenceIdeal := hReferenceIdeal) (hPre_below_inf := hPre_below_inf)
-- ==== Pre_below_inf.lean ====
abbrev S2048x128x128 : Shape := ⟨3, ![2048, 128, 128]⟩
abbrev S2048 : Shape := ⟨1, ![2048]⟩
abbrev S_ : Shape := ⟨0, ![]⟩

class Facts : Prop where
  bcast_S_S2048x128x128 : S_.BroadcastsInDim S2048x128x128 (![] : Fin 0 → Fin S2048x128x128.rank)

variable [Facts]

def fn {F : FTy → Type} [FloatOps F] (main_arg0 : FVec F S2048x128x128 .f32) (main_arg1 : IVec S2048 32) : IVec S2048x128x128 1 :=
  let main_cst : FVec F S_ .f32 := constant S_ .f32 0x7F800000#32
  let main_v0 : FVec F S2048x128x128 .f32 := broadcastInDim S2048x128x128 ![] bcast_S_S2048x128x128 main_cst
  let main_v1 : IVec S2048x128x128 1 := cmpf .olt main_arg0 main_v0
  main_v1
-- ==== Kernel.lean ====
abbrev S2048x128x128 : Shape := ⟨3, ![2048, 128, 128]⟩
abbrev S2048 : Shape := ⟨1, ![2048]⟩
abbrev S8x256x128x128 : Shape := ⟨4, ![8, 256, 128, 128]⟩
abbrev S1 : Shape := ⟨1, ![1]⟩
abbrev S8x16x128x128 : Shape := ⟨4, ![8, 16, 128, 128]⟩
abbrev S8x128x128 : Shape := ⟨3, ![8, 128, 128]⟩
abbrev S128x128 : Shape := ⟨2, ![128, 128]⟩
abbrev S1x128x128 : Shape := ⟨3, ![1, 128, 128]⟩
abbrev S1x1x128x128 : Shape := ⟨4, ![1, 1, 128, 128]⟩
abbrev S128x1 : Shape := ⟨2, ![128, 1]⟩
abbrev S1x128x1 : Shape := ⟨3, ![1, 128, 1]⟩
abbrev S1x1x1 : Shape := ⟨3, ![1, 1, 1]⟩

abbrev nBuf : Space → Nat
  | .hbm => 4
  | .vmem => 3
  | .smem => 1
  | _ => 0

abbrev bufTy : (tb : Table) → Fin (tcTables nBuf tb) → BufTy
  | .hbm, ⟨0, _⟩ => ⟨S2048x128x128, .f32⟩
  | .hbm, ⟨1, _⟩ => ⟨S2048, .i32⟩
  | .hbm, ⟨2, _⟩ => ⟨S8x256x128x128, .f32⟩
  | .hbm, ⟨3, _⟩ => ⟨S1, .f32⟩
  | .local _ .vmem, ⟨0, _⟩ => ⟨S8x16x128x128, .f32⟩
  | .local _ .vmem, ⟨1, _⟩ => ⟨S8x16x128x128, .f32⟩
  | .local _ .vmem, ⟨2, _⟩ => ⟨S8x128x128, .bf16⟩
  | .local _ .smem, ⟨0, _⟩ => ⟨S1, .f32⟩
  | _, _ => ⟨S2048x128x128, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v1667 : BitVec 1 := Scalar.cmpi .eq arg0 c15_i32
  let v1668 : BitVec 32 := Scalar.extui v1667
  let c0_i32_1520 : BitVec 32 := 0#32
  let v1669 : BitVec 1 := Scalar.cmpi .ne v1668 c0_i32_1520
  v1669

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S8x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S2048x128x128 : Shape := ⟨3, ![2048, 128, 128]⟩
abbrev S2048 : Shape := ⟨1, ![2048]⟩
abbrev S_ : Shape := ⟨0, ![]⟩
abbrev S128 : Shape := ⟨1, ![128]⟩
abbrev S1x128x128 : Shape := ⟨3, ![1, 128, 128]⟩
abbrev S128x128 : Shape := ⟨2, ![128, 128]⟩
abbrev S1x128 : Shape := ⟨2, ![1, 128]⟩
abbrev S128x1 : Shape := ⟨2, ![128, 1]⟩
abbrev S1 : Shape := ⟨1, ![1]⟩

abbrev nBuf : Space → Nat
  | .hbm => 58
  | .vmem => 0
  | .smem => 0
  | _ => 0

abbrev bufTy : (tb : Table) → Fin (tcTables nBuf tb) → BufTy
  | .hbm, ⟨0, _⟩ => ⟨S2048x128x128, .f32⟩
  | .hbm, ⟨1, _⟩ => ⟨S2048, .i32⟩
  | .hbm, ⟨2, _⟩ => ⟨S_, .f32⟩
  | .hbm, ⟨3, _⟩ => ⟨S128, .f32⟩
  | .hbm, ⟨4, _⟩ => ⟨S_, .i32⟩
  | .hbm, ⟨5, _⟩ => ⟨S2048x128x128, .f32⟩
  | .hbm, ⟨6, _⟩ => ⟨S_, .i32⟩
  | .hbm, ⟨7, _⟩ => ⟨S128, .f32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S1x128x128, .f32⟩
  | .hbm, ⟨13, _⟩ => ⟨S128x128, .f32⟩
  | .hbm, ⟨14, _⟩ => ⟨S1x128, .f32⟩
  | .hbm, ⟨15, _⟩ => ⟨S128x128, .f32⟩
  | .hbm, ⟨16, _⟩ => ⟨S128x128, .f32⟩
  | .hbm, ⟨17, _⟩ => ⟨S_, .f32⟩
  | .hbm, ⟨18, _⟩ => ⟨S128, .f32⟩
  | .hbm, ⟨19, _⟩ => ⟨S128x1, .f32⟩
  | .hbm, ⟨20, _⟩ => ⟨S128x1, .f32⟩
  | .hbm, ⟨21, _⟩ => ⟨S_, .f32⟩
  | .hbm, ⟨22, _⟩ => ⟨S128x1, .f32⟩
  | .hbm, ⟨23, _⟩ => ⟨S128x1, .i1⟩
  | .hbm, ⟨24, _⟩ => ⟨S_, .f32⟩
  | .hbm, ⟨25, _⟩ => ⟨S_, .f32⟩
  | .hbm, ⟨26, _⟩ => ⟨S128x1, .f32⟩
  | .hbm, ⟨27, _⟩ => ⟨S128x1, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S_, .f32⟩
  | .hbm, ⟨43, _⟩ => ⟨S1, .f32⟩
  | .hbm, ⟨44, _⟩ => ⟨S1, .i1⟩
  | .hbm, ⟨45, _⟩ => ⟨S_, .f32⟩
  | .hbm, ⟨46, _⟩ => ⟨S_, .f32⟩
  | .hbm, ⟨47, _⟩ => ⟨S1, .f32⟩
  | .hbm, ⟨48, _⟩ => ⟨S1, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S1, .f32⟩
  | _, _ => ⟨S2048x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_while0c_c_6 : Ref sig .tc := ⟨.hbm, 8, rfl⟩
abbrev main_while0c_v16 : Ref sig .tc := ⟨.hbm, 9, rfl⟩
abbrev main_while0b_call0_c : Ref sig .tc := ⟨.hbm, 10, rfl⟩
abbrev main_while0b_call0_c_0 : Ref sig .tc := ⟨.hbm, 11, rfl⟩
abbrev main_while0b_call0_v0 : Ref sig .tc := ⟨.hbm, 12, rfl⟩
abbrev main_while0b_v16 : Ref sig .tc := ⟨.hbm, 13, rfl⟩
abbrev main_while0b_v17 : Ref sig .tc := ⟨.hbm, 14, rfl⟩
abbrev main_while0b_v18 : Ref sig .tc := ⟨.hbm, 15, rfl⟩
abbrev main_while0b_v19 : Ref sig .tc := ⟨.hbm, 16, rfl⟩
abbrev main_while0b_cst_6 : Ref sig .tc := ⟨.hbm, 17, rfl⟩
abbrev main_while0b_v20 : Ref sig .tc := ⟨.hbm, 18, rfl⟩
abbrev main_while0b_v21 : Ref sig .tc := ⟨.hbm, 19, rfl⟩
abbrev main_while0b_v22 : Ref sig .tc := ⟨.hbm, 20, rfl⟩
abbrev main_while0b_cst_7 : Ref sig .tc := ⟨.hbm, 21, rfl⟩
abbrev main_while0b_v23 : Ref sig .tc := ⟨.hbm, 22, rfl⟩
abbrev main_while0b_v24 : Ref sig .tc := ⟨.hbm, 23, rfl⟩
abbrev main_while0b_cst_8 : Ref sig .tc := ⟨.hbm, 24, rfl⟩
abbrev main_while0b_call1_v0 : Ref sig .tc := ⟨.hbm, 25, rfl⟩
abbrev main_while0b_call1_v1 : Ref sig .tc := ⟨.hbm, 26, rfl⟩
abbrev main_while0b_v25 : Ref sig .tc := ⟨.hbm, 27, rfl⟩
abbrev main_while0b_v26 : Ref sig .tc := ⟨.hbm, 28, rfl⟩
abbrev main_while0b_v27 : Ref sig .tc := ⟨.hbm, 29, rfl⟩
abbrev main_while0b_v28 : Ref sig .tc := ⟨.hbm, 30, rfl⟩
abbrev main_while0b_cst_9 : Ref sig .tc := ⟨.hbm, 31, rfl⟩
abbrev main_while0b_v29 : Ref sig .tc := ⟨.hbm, 32, rfl⟩
abbrev main_while0b_v30 : Ref sig .tc := ⟨.hbm, 33, rfl⟩
abbrev main_while0b_v31 : Ref sig .tc := ⟨.hbm, 34, rfl⟩
abbrev main_while0b_v32 : Ref sig .tc := ⟨.hbm, 35, rfl⟩
abbrev main_while0b_c_10 : Ref sig .tc := ⟨.hbm, 36, rfl⟩
abbrev main_while0b_v33 : Ref sig .tc := ⟨.hbm, 37, rfl⟩
abbrev main_cst_0 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst_1 : Ref sig .tc := ⟨.hbm, 42, rfl⟩
abbrev main_v5 : Ref sig .tc := ⟨.hbm, 43, rfl⟩
abbrev main_v6 : Ref sig .tc := ⟨.hbm, 44, rfl⟩
abbrev main_cst_2 : Ref sig .tc := ⟨.hbm, 45, rfl⟩
abbrev main_call2_v0 : Ref sig .tc := ⟨.hbm, 46, rfl⟩
abbrev main_call2_v1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_cst_3 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩

abbrev nD : Nat := 1
abbrev τ : Topo := Topo.v7x

variable {F : FTy → Type} [FloatOps F]

abbrev main_while0_count : Scf.Loop 32 := ⟨0#32, 2048#32, 1#32⟩
-- ==== Proof.Stores.lean ====
/- What one run of the kernel's body stores in its scratch, as ONE recursion over the number of stores.

   At every point of the grid the body stores 128 slices in a row: store `n` replaces slice `n % 8` of the scratch by the
   product of the exponentials of block row `n / 8` of that slice's chunk with what the slice held before. The generated
   run lists the 128 stores one by one; here they are `storesAt 128`, in each of the body's three cases. -/
module

public import proofs.«01_k».proof.Proof.Gen.KernelIdeal.Value

@[expose] public section

set_option maxRecDepth 16384

noncomputable section

namespace Cert.Proof.Stores

open Idealize.ShloMosaic Idealize.SL.Sem Cert.KernelIdeal Cert.KernelIdeal.Gen

variable {F : FTy → Type} [FloatOps F]

/-- Slice `n % 8` of the scratch lies inside it. -/
theorem slice_inb (n : ℕ) : ∀ a : Fin S8x128x128.rank, (![n % 8, 0, 0] : Fin 3 → ℕ) a + (![1, 128, 128] : Fin 3 → ℕ) a ≤ S8x128x128.size a := by
  have h := Nat.mod_lt n (show 0 < 8 by decide)
  intro a
  match a with
  | ⟨0, _⟩ => exact h
  | ⟨1, _⟩ => exact Nat.le_refl _
  | ⟨2, _⟩ => exact Nat.le_refl _

/-- Slice `n % 8` of the scratch, the one store `n` replaces. -/
abbrev slice (n : ℕ) : Rect S8x128x128 := Rect.unit ![n % 8, 0, 0] ![1, 128, 128] (slice_inb n)

/-- Row `(n / 8) % 16` of chunk `n % 8` lies inside the block of `theta`. -/
theorem row_inb (n : ℕ) : ∀ a : Fin S8x16x128x128.rank, (![n % 8, n / 8 % 16, 0, 0] : Fin 4 → ℕ) a + (![1, 1, 128, 128] : Fin 4 → ℕ) a ≤ S8x16x128x128.size a := by
  have h := Nat.mod_lt n (show 0 < 8 by decide)
  have h' := Nat.mod_lt (n / 8) (show 0 < 16 by decide)
  intro a
  match a with
  | ⟨0, _⟩ => exact h
  | ⟨1, _⟩ => exact h'
  | ⟨2, _⟩ => exact Nat.le_refl _
  | ⟨3, _⟩ => exact Nat.le_refl _

/-- The matrix of the block of `theta` that store `n` reads: row `n / 8` of chunk `n % 8`. -/
abbrev row (n : ℕ) : Rect S8x16x128x128 := Rect.unit ![n % 8, n / 8 % 16, 0, 0] ![1, 1, 128, 128] (row_inb n)

/-- A list of stores made in the scratch, the last one first. -/
abbrev Pieces (F : FTy → Type) : Type := List (View.Piece (Elt F) S8x128x128 .bf16)

/-- What is loaded from the scratch before store `n`, given the stores made so far: read back from them, but for the
    first eight loads, which `first` gives. -/
def loadAt (arg3 : Memref sig .tc .vmem S8x128x128 .bf16)
    (first : (n : ℕ) → Pieces F → (slice n).shape.Idx → Elt F .bf16) (n : ℕ) (L : Pieces F) : (slice n).shape.Idx → Elt F .bf16 :=
  match n / 8 with
  | 0 => first n L
  | _ + 1 => arg3.view.readCov L (slice n).toLoadRect

/-- The stores made in the scratch after the first `n` of the run, over those in `base`. -/
def storesAt (arg1 : Memref sig .tc .vmem S8x16x128x128 .f32) (harg1 : arg1.IsWhole) (arg3 : Memref sig .tc .vmem S8x128x128 .bf16)
    (x0 : Vec F S8x16x128x128 .f32) (base : Pieces F)
    (first : (n : ℕ) → Pieces F → (slice n).shape.Idx → Elt F .bf16) : ℕ → Pieces F
  | 0 => base
  | n + 1 =>
    ⟨slice n, k0_pay2 (View.readAt (Elt F) arg1.view (row n).toLoadRect (harg1.unread x0))
        (loadAt arg3 first n (storesAt arg1 harg1 arg3 x0 base first n))⟩
      :: storesAt arg1 harg1 arg3 x0 base first n

/-- The stores of the identity matrix in the scratch's slices, which the first point makes before all others. -/
def eyes : ℕ → Pieces F
  | 0 => []
  | n + 1 => ⟨slice n, k0_pay5 (F := F)⟩ :: eyes n

variable (c : Dev nD) (i : grid0.Coords) (arg1 : Memref sig .tc .vmem S8x16x128x128 .f32) (harg1 : arg1.IsWhole)
  (arg2 : Memref sig .tc .smem S1 .f32) (harg2 : arg2.IsWhole) (arg3 : Memref sig .tc .vmem S8x128x128 .bf16) (harg3 : arg3.IsWhole)
  (x0 : Vec F S8x16x128x128 .f32) (xs0 : Vec F S8x128x128 .bf16)

/-- A load of a slice of the scratch that finds there what the scratch held when the body began. -/
def loadHeld (n : ℕ) (_ : Pieces F) : (slice n).shape.Idx → Elt F .bf16 :=
  View.readAt (Elt F) arg3.view (slice n).toLoadRect (harg3.unread xs0)

/-- A load of a slice of the scratch that finds there what the stores so far have left. -/
def loadStored (n : ℕ) (L : Pieces F) : (slice n).shape.Idx → Elt F .bf16 := arg3.view.readCov L (slice n).toLoadRect

/-- The stores of the first point: the identity in every slice, then the 128 products. -/
theorem stores_A (hc0 : cond0_0 i) (hc1 : ¬cond0_1 i) :
    (kernelRun0_A c i arg1 harg1 arg2 harg2 arg3 harg3 hc0 hc1 x0).2.1
      = storesAt arg1 harg1 arg3 x0 (eyes 8) (loadStored arg3) 128 := by sl_kernel_rfl

/-- The stores of a point between the first and the last: the 128 products, over what the scratch held. -/
theorem stores_B (hc0 : ¬cond0_0 i) (hc1 : ¬cond0_1 i) :
    (kernelRun0_B c i arg1 harg1 arg2 harg2 arg3 harg3 hc0 hc1 x0 xs0).2.1
      = storesAt arg1 harg1 arg3 x0 [] (loadHeld arg3 harg3 xs0) 128 := by sl_kernel_rfl

/-- The stores of the last point: the same 128 products. -/
theorem stores_C (hc0 : ¬cond0_0 i) (hc1 : cond0_1 i) :
    (kernelRun0_C c i arg1 harg1 arg2 harg2 arg3 harg3 hc0 hc1 x0 xs0).2.1
      = storesAt arg1 harg1 arg3 x0 [] (loadHeld arg3 harg3 xs0) 128 := by sl_kernel_rfl

end Cert.Proof.Stores

end
-- ==== Proof.Finish.lean ====
/- What the last point of the grid stores in the result, as a recursion over the eight chunks.

   After its 128 products the last point reads the eight slices of the scratch in order. From the vector of ones it
   multiplies by each slice, takes the greatest entry of the product, divides the product by it and adds its logarithm to
   a running sum; at the end it stores the logarithm of the vector's sum plus the running sum plus a constant. -/
module

public import proofs.«01_k».proof.Proof.Stores

@[expose] public section

set_option maxRecDepth 16384

noncomputable section

namespace Cert.Proof.Finish

open Idealize.ShloMosaic Idealize.SL.Sem Cert.KernelIdeal Cert.KernelIdeal.Gen Cert.Proof.Stores

variable {F : FTy → Type} [FloatOps F]

/-- The product of a slice of the scratch with a column. -/
def times (M : Vec F S1x128x128 .bf16) (v : FVec F S128x1 .f32) : FVec F S128x1 .f32 :=
  matmul dot_S128x128_S128x1_S128x1_1_0_0_1_n_n none
    (extf .f32 (shapeCast S128x128 M shapeCasts_S1x128x128_S128x128) bitsLt_bf16_f32) v (constant S128x1 .f32 0x00000000#32)

/-- The greatest entry of a column. -/
def greatest (v : FVec F S128x1 .f32) : F .f32 :=
  extractAt ![0, 0, 0]
    (shapeCast S1x1x1 (multiReduction .maximumf [1, 2] S1 (shapeCast S1x128x1 v shapeCasts_S128x1_S1x128x1) 0xFF800000#32 reduces_S1x128x1_S1 (.inl rfl) rfl)
      shapeCasts_S1_S1x1x1) inpos_S1x1x1_p0_0_0

/-- The sum of a column's entries. -/
def total (v : FVec F S128x1 .f32) : F .f32 :=
  extractAt ![0, 0, 0]
    (shapeCast S1x1x1 (multiReduction .add [1, 2] S1 (shapeCast S1x128x1 v shapeCasts_S128x1_S1x128x1) 0x00000000#32 reduces_S1x128x1_S1 (.inl rfl) rfl)
      shapeCasts_S1_S1x1x1) inpos_S1x1x1_p0_0_0

/-- A column divided by its greatest entry. -/
def scaled (v : FVec F S128x1 .f32) : FVec F S128x1 .f32 :=
  mulf v (broadcast S128x1 (Scalar.divf (Scalar.ofBits .f32 0x3F800000#32) (greatest v)))

/-- The column after the first `n` slices `sl 0`, …, `sl (n - 1)`. -/
def column (sl : ℕ → Vec F S1x128x128 .bf16) : ℕ → FVec F S128x1 .f32
  | 0 => broadcast S128x1 (Scalar.ofBits .f32 0x3F800000#32)
  | n + 1 => scaled (times (sl n) (column sl n))

/-- The running sum of logarithms after the first `n` slices. -/
def logs (sl : ℕ → Vec F S1x128x128 .bf16) : ℕ → F .f32
  | 0 => Scalar.ofBits .f32 0x00000000#32
  | n + 1 => Scalar.addf (logs sl n) (Scalar.log (greatest (times (sl n) (column sl n))))

/-- The word the last point stores in the result. -/
def answer (sl : ℕ → Vec F S1x128x128 .bf16) : F .f32 :=
  Scalar.addf (Scalar.addf (Scalar.log (total (column sl 8))) (logs sl 8)) (Scalar.ofBits .f32 0x462B43D5#32)

variable (c : Dev nD) (i : grid0.Coords) (arg1 : Memref sig .tc .vmem S8x16x128x128 .f32) (harg1 : arg1.IsWhole)
  (arg2 : Memref sig .tc .smem S1 .f32) (harg2 : arg2.IsWhole) (arg3 : Memref sig .tc .vmem S8x128x128 .bf16) (harg3 : arg3.IsWhole)
  (x0 : Vec F S8x16x128x128 .f32) (xs0 : Vec F S8x128x128 .bf16)

/-- The slices of the scratch as the last point reads them after its 128 stores. -/
def slices (n : ℕ) : Vec F S1x128x128 .bf16 :=
  arg3.view.readCov (storesAt arg1 harg1 arg3 x0 [] (loadHeld arg3 harg3 xs0) 128) (slice n).toLoadRect

/-- The last point makes one store in the result: `answer` of the scratch's slices. -/
theorem result_C (hc0 : ¬cond0_0 i) (hc1 : cond0_1 i) :
    (kernelRun0_C c i arg1 harg1 arg2 harg2 arg3 harg3 hc0 hc1 x0 xs0).1
      = [⟨Rect.unit ![0] ![1] inb_S1_S1_0, fun _ => answer (slices arg1 harg1 arg3 harg3 x0 xs0)⟩] := by sl_kernel_rfl

end Cert.Proof.Finish

end
-- ==== Proof.Block.lean ====
/- What one point of the grid leaves in the scratch, entry by entry.

   Each chunk's slice of the scratch is multiplied from the left by the exponentials of the sixteen matrices of the
   point's block, one after another: `cell x X c 16`, where `X` is what the slices held before. -/
module

public import proofs.«01_k».proof.Proof.Stores
public import Idealize.ShloMosaic.Lib.Pointwise
public import Idealize.ShloMosaic.Lib.IdealHost

@[expose] public section

set_option maxRecDepth 16384

noncomputable section

namespace Cert.Proof.Block

open Idealize.ShloMosaic Idealize.SL.Sem Cert.KernelIdeal Cert.KernelIdeal.Gen Cert.Proof.Stores

/-- Chunk `c`'s matrix in the scratch after the first `k` matrices of the block `x`, over what the scratch held in `X`. -/
def cell (x : S8x16x128x128.Idx → EReal) (X : S8x128x128.Idx → EReal) (c : Fin 8) : ℕ → Fin 128 → Fin 128 → EReal
  | 0 => fun i j => X (ix3 c i j)
  | k + 1 => fun i j => ∑ l, Ideal.exp (x (ix4 c (Fin.ofNat 16 k) i l) - Ideal.ofBits .f32 0x40AB43D5#32) * cell x X c k l j

/-- The product one store makes, entry by entry. -/
theorem product_apply (v : Vec Ideal S1x1x128x128 .f32) (w : Vec Ideal S1x128x128 .bf16) (i j : Fin 128) :
    k0_pay2 v w (ix3 0 i j) = ∑ l, Ideal.exp (v (ix4 0 0 i l) - Ideal.ofBits .f32 0x40AB43D5#32) * w (ix3 0 l j) := by
  unfold k0_pay2
  pointwise

/-- The identity matrix the first point stores. -/
theorem eye_apply (i j : Fin 128) : k0_pay5 (F := Ideal) (ix3 0 i j) = if i = j then (1 : EReal) else 0 := by
  unfold k0_pay5 k0_pay4
  pointwise
  have hw : BitVec.ofNat 32 i.val = BitVec.ofNat 32 j.val ↔ i = j := by
    rw [← BitVec.toNat_inj, BitVec.toNat_ofNat, BitVec.toNat_ofNat, Fin.ext_iff]; omega
  by_cases h : i = j
  · rw [WordCmp.cmpi_eq_eq, decide_eq_true (hw.mpr h), if_pos h]; rfl
  · rw [WordCmp.cmpi_eq_eq, decide_eq_false (fun e => h (hw.mp e)), if_neg h]; rfl

/-- Where an index of slice `n` lies in the scratch. -/
theorem slice_emb (n : ℕ) (i j : Fin 128) : (slice n).emb (ix3 0 i j) = ix3 (Fin.ofNat 8 n) i j :=
  funext fun a => Fin.ext <| match a with
    | ⟨0, _⟩ => rfl
    | ⟨1, _⟩ => (Nat.zero_add _).trans (Nat.one_mul _)
    | ⟨2, _⟩ => (Nat.zero_add _).trans (Nat.one_mul _)

/-- Where an index of row `n` lies in the block. -/
theorem row_idx (n : ℕ) (i l : Fin 128) : (row n).toLoadRect.idx (ix4 0 0 i l) = ix4 (Fin.ofNat 8 n) (Fin.ofNat 16 (n / 8)) i l :=
  funext fun a => Fin.ext <| match a with
    | ⟨0, _⟩ => rfl
    | ⟨1, _⟩ => rfl
    | ⟨2, _⟩ => (Nat.zero_add _).trans (Nat.one_mul _)
    | ⟨3, _⟩ => (Nat.zero_add _).trans (Nat.one_mul _)

/-- Slices whose numbers differ modulo eight do not meet. -/
theorem not_mem_slice {n p : ℕ} (h : p % 8 ≠ n % 8) (i j : Fin 128) : ix3 (Fin.ofNat 8 p) i j ∉ (slice n).set := fun hm => by
  have h0 : n % 8 ≤ p % 8 ∧ p % 8 < n % 8 + 1 := Rect.mem_set_unit.mp hm (0 : Fin 3)
  omega

variable (arg1 : Memref sig .tc .vmem S8x16x128x128 .f32) (harg1 : arg1.IsWhole)
  (arg3 : Memref sig .tc .vmem S8x128x128 .bf16) (harg3 : arg3.IsWhole)
  (x : Vec Ideal S8x16x128x128 .f32) (X : S8x128x128.Idx → EReal) (base : Pieces Ideal)
  (first : (n : ℕ) → Pieces Ideal → (slice n).shape.Idx → Elt Ideal .bf16)

/-- What a load of slice `n` finds among stores already made. -/
theorem stored_apply (L : Pieces Ideal) (n : ℕ) (i j : Fin 128) :
    arg3.view.readCov L (slice n).toLoadRect (ix3 0 i j) = View.canon L (ix3 (Fin.ofNat 8 n) i j) := by
  rw [View.readCov_eq_canon', ← slice_emb n i j]; rfl

/-- A store leaves the other slices as they were. -/
theorem canon_other (n p : ℕ) (w : (slice n).shape.Idx → Elt Ideal .bf16) (L : Pieces Ideal) (h : p % 8 ≠ n % 8) (i j : Fin 128) :
    View.canon (⟨slice n, w⟩ :: L) (ix3 (Fin.ofNat 8 p) i j) = View.canon L (ix3 (Fin.ofNat 8 p) i j) :=
  View.canon_cons_of_not_mem _ L (not_mem_slice h i j)

/-- The last eight stores are the slices' current contents: store `p` left its chunk's matrix after `p / 8 + 1` matrices. -/
theorem canon_storesAt
    (hfirst : ∀ n, n < 8 → ∀ i j, first n (storesAt arg1 harg1 arg3 x base first n) (ix3 0 i j) = X (ix3 (Fin.ofNat 8 n) i j)) :
    ∀ n p, p < n → n ≤ p + 8 → ∀ i j, View.canon (storesAt arg1 harg1 arg3 x base first n) (ix3 (Fin.ofNat 8 p) i j)
      = cell x X (Fin.ofNat 8 p) (p / 8 + 1) i j
  | 0, p, hp, _, _, _ => absurd hp (Nat.not_lt_zero p)
  | n + 1, p, hp, hn, i, j => by
    rcases Nat.lt_succ_iff_lt_or_eq.mp hp with h | rfl
    · exact (canon_other n p _ _ (by omega) i j).trans (canon_storesAt hfirst n p h (by omega) i j)
    · unfold storesAt
      rw [← slice_emb p i j, View.canon_cons_emb, product_apply]
      refine Finset.sum_congr rfl fun l _ => ?_
      rw [View.readAt_apply, harg1.read_unread, row_idx]
      refine congrArg (Ideal.exp (x (ix4 (Fin.ofNat 8 p) (Fin.ofNat 16 (p / 8)) i l) - Ideal.ofBits .f32 0x40AB43D5#32) * ·) ?_
      unfold loadAt
      rcases h8 : p / 8 with _ | q
      · exact hfirst p (by omega) l j
      · have hq : Fin.ofNat 8 (p - 8) = Fin.ofNat 8 p := Fin.ext (show (p - 8) % 8 = p % 8 by omega)
        show arg3.view.readCov (storesAt arg1 harg1 arg3 x base first p) (slice p).toLoadRect (ix3 0 l j) = _
        rw [stored_apply, ← hq, canon_storesAt hfirst p (p - 8) (by omega) (by omega) l j, show (p - 8) / 8 = q by omega]

/-- After all 128 stores every slice has been multiplied by its sixteen matrices. -/
theorem canon_stores
    (hfirst : ∀ n, n < 8 → ∀ i j, first n (storesAt arg1 harg1 arg3 x base first n) (ix3 0 i j) = X (ix3 (Fin.ofNat 8 n) i j))
    (c : Fin 8) (i j : Fin 128) : View.canon (storesAt arg1 harg1 arg3 x base first 128) (ix3 c i j) = cell x X c 16 i j := by
  have h := canon_storesAt arg1 harg1 arg3 x X base first hfirst 128 (120 + c.val) (by omega) (by omega) i j
  have hc : Fin.ofNat 8 (120 + c.val) = c := Fin.ext (show (120 + c.val) % 8 = c.val by omega)
  rwa [hc, show (120 + c.val) / 8 + 1 = 16 by omega] at h

/-- At a later point the first load of a slice finds what the point before left there. -/
theorem held_apply (n : ℕ) (L : Pieces Ideal) (X : Vec Ideal S8x128x128 .bf16) (i j : Fin 128) :
    loadHeld arg3 harg3 X n L (ix3 0 i j) = X (ix3 (Fin.ofNat 8 n) i j) := by
  unfold loadHeld
  rw [View.readAt_apply, harg3.read_unread, ← slice_emb n i j]; rfl

/-- What the first point starts from: the identity in every slice. -/
def eye (y : S8x128x128.Idx) : EReal := if (y 1).val = (y 2).val then 1 else 0

/-- The stores of the identity, read back. -/
theorem canon_eyes : ∀ n p, p < n → n ≤ 8 → ∀ i j, View.canon (eyes (F := Ideal) n) (ix3 (Fin.ofNat 8 p) i j) = eye (ix3 (Fin.ofNat 8 p) i j)
  | 0, p, hp, _, _, _ => absurd hp (Nat.not_lt_zero p)
  | n + 1, p, hp, hn, i, j => by
    rcases Nat.lt_succ_iff_lt_or_eq.mp hp with h | rfl
    · exact (canon_other n p _ _ (by omega) i j).trans (canon_eyes n p h (by omega) i j)
    · unfold eyes
      rw [← slice_emb p i j, View.canon_cons_emb, eye_apply, slice_emb]
      exact if_congr Fin.ext_iff rfl rfl

/-- Before its first product a slice still holds the identity. -/
theorem canon_before : ∀ n p, n ≤ p → p < 8 → ∀ i j,
    View.canon (storesAt arg1 harg1 arg3 x (eyes 8) first n) (ix3 (Fin.ofNat 8 p) i j) = eye (ix3 (Fin.ofNat 8 p) i j)
  | 0, p, _, hp, i, j => canon_eyes 8 p hp (Nat.le_refl 8) i j
  | n + 1, p, hn, hp, i, j => by
    exact (canon_other n p _ _ (by omega) i j).trans <| canon_before n p (Nat.le_of_succ_le hn) hp i j

variable (c : Dev nD) (i : grid0.Coords) (arg2 : Memref sig .tc .smem S1 .f32) (harg2 : arg2.IsWhole) (xs : Vec Ideal S8x128x128 .bf16)

/-- What the first point leaves in the scratch. -/
theorem scratch_A (hc0 : cond0_0 i) (hc1 : ¬cond0_1 i) (d : Fin 8) (a b : Fin 128) :
    sout0_A_0 c i arg1 harg1 arg2 harg2 arg3 harg3 hc0 hc1 x (ix3 d a b) = cell x eye d 16 a b := by
  unfold sout0_A_0
  rw [View.read_writes_eq_canon _ _ _ (scover0_A_0 c i arg1 harg1 arg2 harg2 arg3 harg3 hc0 hc1 x), stores_A]
  exact canon_stores _ _ _ _ _ _ _ (fun n hn a b => (stored_apply arg3 _ n a b).trans
    (canon_before arg1 harg1 arg3 x _ n n (Nat.le_refl n) hn a b)) d a b

/-- What a point between the first and the last leaves in the scratch. -/
theorem scratch_B (hc0 : ¬cond0_0 i) (hc1 : ¬cond0_1 i) (d : Fin 8) (a b : Fin 128) :
    sout0_B_0 c i arg1 harg1 arg2 harg2 arg3 harg3 hc0 hc1 x xs (ix3 d a b) = cell x xs d 16 a b := by
  unfold sout0_B_0
  rw [View.read_writes_eq_canon _ _ _ (scover0_B_0 c i arg1 harg1 arg2 harg2 arg3 harg3 hc0 hc1 x xs), stores_B]
  exact canon_stores _ _ _ _ _ _ _ (fun n _ a b => held_apply arg3 harg3 n _ xs a b) d a b

/-- What the last point's finish reads from the scratch. -/
theorem slices_C (n : ℕ) (a b : Fin 128) :
    arg3.view.readCov (storesAt arg1 harg1 arg3 x [] (loadHeld arg3 harg3 xs) 128) (slice n).toLoadRect (ix3 0 a b)
      = cell x xs (Fin.ofNat 8 n) 16 a b := by
  rw [stored_apply]
  exact canon_stores _ _ _ _ _ _ _ (fun n _ a b => held_apply arg3 harg3 n _ xs a b) _ a b

end Cert.Proof.Block

end
-- ==== Proof.Algebra.lean ====
/- The mathematics the kernel and the reference meet in, free of either program's shapes.

   Extended reals below +∞ have a nonnegative real exponential (`weight`), so a chain of `logsumexp`s is the logarithm of
   a product of nonnegative matrices with a vector. -/
module

public import Idealize.ShloMosaic.PureOps.Ideal.Laws

@[expose] public section

noncomputable section

namespace Cert.Proof.Algebra

open Idealize.ShloMosaic

/-- The exponential of an extended real as a real number: `0` at −∞ (and, unused, at +∞). -/
def weight (x : EReal) : ℝ := (Ideal.exp x).toReal

/-- A weight is nonnegative. -/
theorem weight_nonneg (x : EReal) : 0 ≤ weight x := by
  unfold weight
  induction x with
  | bot => simp
  | coe r => simpa using (Real.exp_pos r).le
  | top => simp

/-- Below +∞ the exponential IS the weight. -/
theorem exp_eq {x : EReal} (h : x ≠ ⊤) : Ideal.exp x = (weight x : EReal) := by
  unfold weight
  induction x with
  | bot => simp
  | coe r => simp
  | top => exact absurd rfl h

/-- Taking a real number off first scales the exponential. -/
theorem exp_sub {x : EReal} (h : x ≠ ⊤) (r : ℝ) : Ideal.exp (x - (r : EReal)) = ((Real.exp (-r) * weight x : ℝ) : EReal) := by
  unfold weight
  induction x with
  | bot => simp
  | coe a => rw [← EReal.coe_sub, Ideal.exp_coe, Ideal.exp_coe, EReal.toReal_coe, ← Real.exp_add]; congr 2; ring
  | top => exact absurd rfl h

/-- The logarithm of a nonnegative real is never +∞. -/
theorem log_ne_top (y : ℝ) : Ideal.log (y : EReal) ≠ ⊤ := by
  rw [Ideal.log_coe]; split <;> simp

/-- The logarithm of a positive real. -/
theorem log_pos {y : ℝ} (h : 0 < y) : Ideal.log (y : EReal) = (Real.log y : EReal) := by
  rw [Ideal.log_coe, if_neg (not_le.mpr h)]

/-- The logarithm of zero is −∞. -/
theorem log_zero : Ideal.log ((0 : ℝ) : EReal) = ⊥ := by
  rw [Ideal.log_coe, if_pos le_rfl]

/-- The weight of a nonnegative real's logarithm is that real. -/
theorem weight_log {y : ℝ} (h : 0 ≤ y) : weight (Ideal.log (y : EReal)) = y := by
  unfold weight
  rcases h.eq_or_lt with h | h
  · rw [← h, log_zero]; simp
  · rw [log_pos h, Ideal.exp_coe, EReal.toReal_coe, Real.exp_log h]

/-- The logarithm of a weight is the extended real it is the weight of. -/
theorem log_weight {x : EReal} (h : x ≠ ⊤) : Ideal.log (weight x : EReal) = x := by
  unfold weight
  induction x with
  | bot => simpa using log_zero
  | coe r => rw [Ideal.exp_coe, EReal.toReal_coe, log_pos (Real.exp_pos r), Real.log_exp]
  | top => exact absurd rfl h

/-- The logarithm of a product of nonnegative reals. -/
theorem log_mul {y z : ℝ} (hy : 0 ≤ y) (hz : 0 ≤ z) : Ideal.log ((y * z : ℝ) : EReal) = Ideal.log (y : EReal) + Ideal.log (z : EReal) := by
  rcases hy.eq_or_lt with h | h
  · rw [← h, zero_mul, log_zero, EReal.bot_add]
  · rcases hz.eq_or_lt with h' | h'
    · rw [← h', mul_zero, log_zero, EReal.add_bot]
    · rw [log_pos h, log_pos h', log_pos (mul_pos h h'), Real.log_mul h.ne' h'.ne', EReal.coe_add]

/-- Adding an entry below +∞ to a logarithm multiplies by the entry's weight under the logarithm. -/
theorem add_log {x : EReal} (h : x ≠ ⊤) {y : ℝ} (hy : 0 ≤ y) : x + Ideal.log (y : EReal) = Ideal.log ((weight x * y : ℝ) : EReal) := by
  rw [log_mul (weight_nonneg x) hy, log_weight h]

/-- The number `logsumexp` takes off: the greatest entry where it is finite, 0 where it is not. -/
def offset (top : EReal) : EReal := if max top (-top) < ⊤ then top else 0

/-- What is taken off is always a real number. -/
theorem offset_real (top : EReal) : ∃ r : ℝ, offset top = (r : EReal) := by
  unfold offset
  induction top with
  | bot => exact ⟨0, by simp⟩
  | top => exact ⟨0, by simp⟩
  | coe r =>
    by_cases h : max (r : EReal) (-(r : EReal)) < ⊤
    · exact ⟨r, if_pos h⟩
    · exact ⟨0, by rw [if_neg h]; rfl⟩

/-- A finite sum of reals, as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- `logsumexp` of logarithms of nonnegative reals is the logarithm of their sum, whatever real number is taken off
    first and put back. -/
theorem logsumexp {ι : Type*} [Fintype ι] (x : ι → EReal) (y : ι → ℝ) (hy : ∀ i, 0 ≤ y i) (hx : ∀ i, x i = Ideal.log (y i : EReal)) (top : EReal) :
    Ideal.log (∑ i, Ideal.exp (x i - offset top)) + offset top = Ideal.log ((∑ i, y i : ℝ) : EReal) := by
  obtain ⟨r, hr⟩ := offset_real top
  have he : ∀ i, Ideal.exp (x i - offset top) = ((Real.exp (-r) * y i : ℝ) : EReal) := fun i => by
    rw [hr, hx i, exp_sub (log_ne_top _), weight_log (hy i)]
  rw [Finset.sum_congr rfl fun i _ => he i, ← coe_sum, ← Finset.mul_sum, hr,
    log_mul (Real.exp_pos _).le (Finset.sum_nonneg fun i _ => hy i), log_pos (Real.exp_pos _), Real.log_exp,
    add_comm, ← add_assoc, ← EReal.coe_add, add_neg_cancel, EReal.coe_zero, zero_add]

end Cert.Proof.Algebra

end
-- ==== Proof.Chain.lean ====
/- Chains of nonnegative matrices, over any finite set of states.

   The reference carries a vector through all the matrices (`state`). The kernel multiplies each chunk's matrices first,
   every entry scaled by one factor (`product`), then carries a vector through the chunks, divided by its greatest entry
   after each and with the logarithms of those entries added up. Both reach the same number. -/
module

public import proofs.«01_k».proof.Proof.Algebra

@[expose] public section

noncomputable section

namespace Cert.Proof.Chain

open Idealize.ShloMosaic Cert.Proof.Algebra

variable {ι : Type} [Fintype ι] [DecidableEq ι]

/-- The vector of ones carried through the first `t` matrices. -/
def state (e : ℕ → ι → ι → ℝ) : ℕ → ι → ℝ
  | 0 => fun _ => 1
  | t + 1 => fun i => ∑ j, e t i j * state e t j

/-- The product of the `n` matrices from number `s` on, the later ones on the left, each entry scaled by `q`. -/
def product (q : ℝ) (e : ℕ → ι → ι → ℝ) (s : ℕ) : ℕ → ι → ι → ℝ
  | 0 => fun i j => if i = j then 1 else 0
  | n + 1 => fun i j => ∑ l, (q * e (s + n) i l) * product q e s n l j

/-- The carried vector is nonnegative. -/
theorem state_nonneg {e : ℕ → ι → ι → ℝ} (he : ∀ t i j, 0 ≤ e t i j) : ∀ t i, 0 ≤ state e t i
  | 0, _ => zero_le_one
  | t + 1, i => Finset.sum_nonneg fun j _ => mul_nonneg (he t i j) (state_nonneg he t j)

/-- A product's entries are nonnegative. -/
theorem product_nonneg {q : ℝ} (hq : 0 ≤ q) {e : ℕ → ι → ι → ℝ} (he : ∀ t i j, 0 ≤ e t i j) (s : ℕ) : ∀ n i j, 0 ≤ product q e s n i j
  | 0, i, j => by unfold product; split <;> norm_num
  | n + 1, i, j => Finset.sum_nonneg fun l _ => mul_nonneg (mul_nonneg hq (he (s + n) i l)) (product_nonneg hq he s n l j)

/-- A product takes the vector carried to its first matrix to the one carried past its last, scaled once per matrix. -/
theorem product_state (q : ℝ) (e : ℕ → ι → ι → ℝ) (s : ℕ) : ∀ n i, ∑ j, product q e s n i j * state e s j = q ^ n * state e (s + n) i
  | 0, i => by simp [product]
  | n + 1, i => by
    have h : ∀ j, product q e s (n + 1) i j * state e s j = ∑ l, (q * e (s + n) i l) * (product q e s n l j * state e s j) := fun j => by
      rw [product, Finset.sum_mul]; exact Finset.sum_congr rfl fun l _ => mul_assoc _ _ _
    rw [Finset.sum_congr rfl fun j _ => h j, Finset.sum_comm]
    have h' : ∀ l, ∑ j, (q * e (s + n) i l) * (product q e s n l j * state e s j) = q ^ (n + 1) * (e (s + n) i l * state e (s + n) l) := fun l => by
      rw [← Finset.mul_sum, product_state q e s n l]; ring
    rw [Finset.sum_congr rfl fun l _ => h' l, ← Finset.mul_sum]
    rfl

/-- The vector of ones carried through the chunks' products, before any division. -/
def carried (M : ℕ → ι → ι → ℝ) : ℕ → ι → ℝ
  | 0 => fun _ => 1
  | n + 1 => fun i => ∑ j, M n i j * carried M n j

/-- The vector carried through the first `n` chunks of `k` matrices is the one carried through `k * n` matrices, scaled. -/
theorem carried_products (q : ℝ) (e : ℕ → ι → ι → ℝ) (k : ℕ) : ∀ n i, carried (fun c => product q e (k * c) k) n i = q ^ (k * n) * state e (k * n) i
  | 0, i => by simp [carried, state]
  | n + 1, i => by
    have h : ∀ j, product q e (k * n) k i j * carried (fun c => product q e (k * c) k) n j
        = q ^ (k * n) * (product q e (k * n) k i j * state e (k * n) j) := fun j => by
      rw [carried_products q e k n j]; ring
    show ∑ j, product q e (k * n) k i j * carried (fun c => product q e (k * c) k) n j = _
    rw [Finset.sum_congr rfl fun j _ => h j, ← Finset.mul_sum, product_state, Nat.mul_succ, pow_add, mul_assoc]

/-- `s` is the greatest value of `x`. -/
def IsGreatestOf (s : EReal) (x : ι → EReal) : Prop := (∃ i, s = x i) ∧ ∀ j, x j ≤ s

/-- A column `v` and a sum of logarithms `a` stand for the vector `w`: `w` is `v` scaled by the exponential of `a`; where
    a greatest entry was zero, `w` and `v` are zero and `a` is −∞. -/
def Stands (v : ι → EReal) (a : EReal) (w : ι → ℝ) : Prop :=
  (∃ (u : ι → ℝ) (r : ℝ), (∀ i, v i = (u i : EReal)) ∧ a = (r : EReal) ∧ ∀ i, Real.exp r * u i = w i)
    ∨ ((∀ i, v i = 0) ∧ a = ⊥ ∧ ∀ i, w i = 0)

/-- One chunk: multiply by its matrix, divide by the greatest entry, add its logarithm. -/
theorem Stands.step {v : ι → EReal} {a : EReal} {w : ι → ℝ} (h : Stands v a w) (hw : ∀ i, 0 ≤ w i) (M : ι → ι → ℝ)
    (hM : ∀ i j, 0 ≤ M i j) (x : ι → EReal) (hx : ∀ i, x i = ∑ j, (M i j : EReal) * v j) (s : EReal) (hs : IsGreatestOf s x) :
    Stands (fun i => x i * Ideal.div 1 s) (a + Ideal.log s) (fun i => ∑ j, M i j * w j) := by
  unfold Stands
  beta_reduce
  obtain ⟨⟨i₀, hi₀⟩, hle⟩ := hs
  rcases h with ⟨u, r, hv, ha, hu⟩ | ⟨hv, ha, hz⟩
  · have hu0 : ∀ i, 0 ≤ u i := fun i => nonneg_of_mul_nonneg_right (by rw [hu i]; exact hw i) (Real.exp_pos r)
    have hxr : ∀ i, x i = ((∑ j, M i j * u j : ℝ) : EReal) := fun i => by
      rw [hx i, coe_sum]; exact Finset.sum_congr rfl fun j _ => by rw [hv j, EReal.coe_mul]
    have hx0 : ∀ i, 0 ≤ ∑ j, M i j * u j := fun i => Finset.sum_nonneg fun j _ => mul_nonneg (hM i j) (hu0 j)
    have hw' : ∀ i, ∑ j, M i j * w j = Real.exp r * ∑ j, M i j * u j := fun i => by
      rw [Finset.mul_sum]; exact Finset.sum_congr rfl fun j _ => by rw [← hu j]; ring
    have hsr : s = ((∑ j, M i₀ j * u j : ℝ) : EReal) := by rw [hi₀, hxr]
    rcases (hx0 i₀).eq_or_lt with h0 | h0
    · have hxz : ∀ i, ∑ j, M i j * u j = 0 := fun i => by
        have := hle i; rw [hxr i, hsr, ← h0] at this
        exact le_antisymm (EReal.coe_le_coe_iff.mp this) (hx0 i)
      refine .inr ⟨fun i => by rw [hxr i, hxz i, EReal.coe_zero, zero_mul], ?_, fun i => by rw [hw' i, hxz i, mul_zero]⟩
      rw [hsr, ← h0, log_zero, EReal.add_bot]
    · refine .inl ⟨fun i => (∑ j, M i j * u j) * (1 / ∑ j, M i₀ j * u j), r + Real.log (∑ j, M i₀ j * u j), fun i => ?_, ?_, fun i => ?_⟩ <;> beta_reduce
      · rw [hxr i, hsr, Ideal.div_coe h0.ne', one_mul, EReal.coe_mul]
      · rw [ha, hsr, log_pos h0, EReal.coe_add]
      · rw [hw' i, Real.exp_add, Real.exp_log h0]
        field_simp
  · have hxz : ∀ i, x i = 0 := fun i => by
      rw [hx i]; exact Finset.sum_eq_zero fun j _ => by rw [hv j, mul_zero]
    exact .inr ⟨fun i => by rw [hxz i, zero_mul], by rw [ha, EReal.bot_add],
      fun i => Finset.sum_eq_zero fun j _ => by rw [hz j, mul_zero]⟩

/-- The logarithm of the column's sum plus the sum of logarithms is the logarithm of the vector's sum. -/
theorem Stands.log_sum {v : ι → EReal} {a : EReal} {w : ι → ℝ} (h : Stands v a w) (hw : ∀ i, 0 ≤ w i) :
    Ideal.log (∑ i, v i) + a = Ideal.log ((∑ i, w i : ℝ) : EReal) := by
  rcases h with ⟨u, r, hv, ha, hu⟩ | ⟨_, ha, hz⟩
  · have hu0 : ∀ i, 0 ≤ u i := fun i => nonneg_of_mul_nonneg_right (by rw [hu i]; exact hw i) (Real.exp_pos r)
    rw [Finset.sum_congr rfl fun i _ => hv i, ← coe_sum, ha, ← Finset.sum_congr rfl fun i _ => hu i, ← Finset.mul_sum,
      log_mul (Real.exp_pos r).le (Finset.sum_nonneg fun i _ => hu0 i), log_pos (Real.exp_pos r), Real.log_exp, add_comm]
  · rw [ha, EReal.add_bot, Finset.sum_congr rfl fun i _ => hz i, Finset.sum_const_zero, log_zero]

/-- The scale put on every matrix comes off the logarithm as a sum of shifts. -/
theorem log_unscale (b : ℝ) (n : ℕ) {y : ℝ} (hy : 0 ≤ y) :
    Ideal.log ((Real.exp (-b) ^ n * y : ℝ) : EReal) + (((n : ℝ) * b : ℝ) : EReal) = Ideal.log (y : EReal) := by
  rw [log_mul (pow_pos (Real.exp_pos _) n).le hy, log_pos (pow_pos (Real.exp_pos _) n), Real.log_pow, Real.log_exp,
    add_comm, ← add_assoc, ← EReal.coe_add, mul_neg, add_neg_cancel, EReal.coe_zero, zero_add]

end Cert.Proof.Chain

end
-- ==== Proof.Words.lean ====
/- The constants the two programs write as bit patterns, as extended reals. -/
module

public import Idealize.ShloMosaic.PureOps.Ideal.Laws
import Mathlib.Tactic.NormNum

@[expose] public section

namespace Cert.Proof.Words

open Idealize.ShloMosaic

/-- The pattern of +∞. -/
theorem word_top : Ideal.ofBits .f32 0x7F800000#32 = ⊤ := by simp [Ideal.ofBits, Ideal.ieee]

/-- The pattern of −∞. -/
theorem word_bot : Ideal.ofBits .f32 0xFF800000#32 = ⊥ := by simp [Ideal.ofBits, Ideal.ieee]

/-- The shift the kernel takes off every entry before its exponential: the binary fraction nearest to `log 128 + 1/2`. -/
noncomputable def shift : ℝ := 11224021 / 2097152

/-- The pattern of the shift. -/
theorem word_shift : Ideal.ofBits .f32 0x40AB43D5#32 = (shift : EReal) := by
  simp [Ideal.ofBits, Ideal.ieee, shift, -EReal.coe_mul]
  norm_num

/-- The pattern of the constant the kernel adds at the end: 2048 shifts, exactly. -/
theorem word_shifts : Ideal.ofBits .f32 0x462B43D5#32 = (((2048 : ℕ) : ℝ) * shift : ℝ) := by
  simp [Ideal.ofBits, Ideal.ieee, shift, -EReal.coe_mul]
  norm_num

end Cert.Proof.Words
-- ==== Proof.Reference.lean ====
/- What the reference computes: the logarithm of the sum of the vector carried through all the matrices of weights.

   One trip of its loop is a `logsumexp` along each row; before trip `n` the loop holds the logarithms of the vector
   carried through the first `n` matrices, and the operations after the loop take one more `logsumexp`. -/
module

public import proofs.«01_k».proof.Proof.Chain
public import proofs.«01_k».proof.Proof.Words
public import proofs.«01_k».proof.Proof.Gen.ReferenceIdeal.StepRun
public import Idealize.ShloMosaic.Lib.Pointwise
public import Idealize.ShloMosaic.Lib.IdealHost

@[expose] public section

set_option maxRecDepth 16384

noncomputable section

namespace Cert.Proof.Reference

open Idealize.ShloMosaic Cert.ReferenceIdeal Cert.ReferenceIdeal.Gen Cert.ReferenceIdeal.Step Cert.Proof.Algebra Cert.Proof.Chain Cert.Proof.Words

/-- The matrices of weights: the exponentials of `theta`'s entries as real numbers. -/
def weights (θ : (⟨3, ![2048, 128, 128]⟩ : Shape).Idx → EReal) (t : ℕ) (i j : Fin 128) : ℝ := weight (θ (ix3 (Fin.ofNat 2048 t) i j))

/-- Weights are nonnegative. -/
theorem weights_nonneg (θ : (⟨3, ![2048, 128, 128]⟩ : Shape).Idx → EReal) (t : ℕ) (i j : Fin 128) : 0 ≤ weights θ t i j := weight_nonneg _

/-- The comparison the programs make to see whether a number is finite is the one `offset` makes. -/
theorem offset_eq (x : EReal) : (if FloatOps.absf (F := Ideal) (φ := .f32) x < Ideal.ofBits .f32 0x7F800000#32 then x else 0) = offset x := by
  rw [word_top]; rfl

/-- The loop's index, read as the start of a slice. -/
theorem start_toInt {n : ℕ} (hn : n < 2048) : (BitVec.ofNat 32 n).toInt = (n : ℤ) := by
  have h : (BitVec.ofNat 32 n).toNat = n := by rw [BitVec.toNat_ofNat]; omega
  rw [BitVec.toInt_eq_toNat_of_lt (by omega), h]

/-- Where trip `n` starts its slice of `theta`. -/
def starts (n : ℕ) (a : Fin 3) : ℤ :=
  ((![constantI S_ 32 (BitVec.ofNat 32 n), constantI S_ 32 0#32, constantI S_ 32 0#32] : Fin 3 → IVec S_ 32) a (Shape.Idx.first h_S_)).toInt

/-- The entries a trip takes the `logsumexp` of: row `i` of the trip's matrix plus the carried vector. -/
theorem entry_apply {n : ℕ} (hn : n < 2048) (s : State Ideal) (i k : Fin 128) :
    b6 n s (ix2 i k) = s.main_v1_0 (ix3 (Fin.ofNat 2048 n) i k) + s.main_v1_2 (ix1 k) := by
  have h0 : Host.clampedStart S2048x128x128 S1x128x128 rfl (starts n) 0 = n :=
    Host.clampedStart_of_le _ _ 0 n (start_toInt hn) (by show n + 1 ≤ 2048; omega)
  have h1 : Host.clampedStart S2048x128x128 S1x128x128 rfl (starts n) 1 = 0 := Host.clampedStart_of_le _ _ 1 0 rfl (Nat.le_refl 128)
  have h2 : Host.clampedStart S2048x128x128 S1x128x128 rfl (starts n) 2 = 0 := Host.clampedStart_of_le _ _ 2 0 rfl (Nat.le_refl 128)
  have hs : b2 n s = Host.dynamicSlice S1x128x128 s.main_v1_0 (starts n) sliceFits_S2048x128x128_S1x128x128 := rfl
  unfold b6 b5 b4 b3
  rw [hs]
  pointwise
  refine congrArg (fun x => s.main_v1_0 x + _) (funext fun a => Fin.ext ?_)
  match a with
  | ⟨0, _⟩ => exact h0.trans (Nat.mod_eq_of_lt hn).symm
  | ⟨1, _⟩ => exact (congrArg (· + i.val) h1).trans (Nat.zero_add _)
  | ⟨2, _⟩ => exact (congrArg (· + k.val) h2).trans (Nat.zero_add _)

/-- One trip at row `i`: the logarithm of the sum of the row's exponentials, a number taken off before and put back after. -/
theorem trip_apply (n : ℕ) (s : State Ideal) (i : Fin 128) :
    b25 n s (ix1 i) = Ideal.log (∑ k, Ideal.exp (b6 n s (ix2 i k) - offset (b8 n s (ix1 i)))) + offset (b8 n s (ix1 i)) := by
  rw [← offset_eq]
  unfold b25 b24 b23 b22 b21 b20 b19 b18 b17 b16 b15 b14 b13 b12 b11 b10 b9
  pointwise

/-- The states of the reference's loop. -/
def states (θ : (⟨S2048x128x128, .f32⟩ : BufTy).Contents (Elt Ideal)) : ℕ → State Ideal
  | 0 => init θ
  | n + 1 => step n (states θ n)

/-- No trip changes `theta`. -/
theorem states_theta (θ : (⟨S2048x128x128, .f32⟩ : BufTy).Contents (Elt Ideal)) : ∀ n, (states θ n).main_v1_0 = θ
  | 0 => rfl
  | n + 1 => states_theta θ n

/-- Before trip `n` the loop holds the logarithms of the vector carried through the first `n` matrices. -/
theorem states_vector (θ : (⟨S2048x128x128, .f32⟩ : BufTy).Contents (Elt Ideal)) (hθ : ∀ x, θ x ≠ (⊤ : EReal)) :
    ∀ n, n ≤ 2048 → ∀ i, (states θ n).main_v1_2 (ix1 i) = Ideal.log (state (weights θ) n i : EReal)
  | 0, _, i => by
    unfold states init K_main_v0 K_main_cst state
    pointwise
    rw [log_pos one_pos, Real.log_one, EReal.coe_zero]
  | n + 1, hn, i => by
    show b25 n (states θ n) (ix1 i) = _
    rw [trip_apply]
    refine logsumexp _ (fun j => weights θ n i j * state (weights θ) n j)
      (fun j => mul_nonneg (weights_nonneg θ n i j) (state_nonneg (weights_nonneg θ) n j)) (fun k => ?_) _
    rw [entry_apply hn, states_theta, states_vector θ hθ n (Nat.le_of_succ_le hn) k]
    exact add_log (hθ _) (state_nonneg (weights_nonneg θ) n k)

/-- The reference's result: the logarithm of the sum of the vector carried through all 2048 matrices. -/
theorem result_apply (θ : (⟨S2048x128x128, .f32⟩ : BufTy).Contents (Elt Ideal)) (hθ : ∀ x, θ x ≠ (⊤ : EReal)) (i : Fin 1) :
    R_main_v15 (states θ 2048) (ix1 i) = Ideal.log ((∑ j, state (weights θ) 2048 j : ℝ) : EReal) := by
  unfold R_main_v15
  pointwise
  have hz : id (constant (F := Ideal) S_ .f32 0x00000000#32) ix0 = (0 : EReal) := Ideal.ofBits_zero_f32
  simp only [hz, offset_eq]
  exact logsumexp _ _ (state_nonneg (weights_nonneg θ) 2048) (states_vector θ hθ 2048 (Nat.le_refl _)) _

end Cert.Proof.Reference

end
-- ==== Proof.Sweep.lean ====
/- What the scratch holds after each point of the grid: per chunk, the product of the matrices read so far.

   Point `t` reads rows `16 t`, …, `16 t + 15` of every chunk. As no entry of `theta` is +∞, each exponential taken off the
   shift is a real number, and so is every entry of the products. -/
module

public import proofs.«01_k».proof.Proof.Block
public import proofs.«01_k».proof.Proof.Reference
public import Idealize.ShloMosaic.Lib.Claim
public import Idealize.ShloMosaic.Lib.Pipeline.ValueKit

@[expose] public section

set_option maxRecDepth 16384

noncomputable section

namespace Cert.Proof.Sweep

open Idealize.ShloMosaic Idealize.ShloMosaic.TcCoe Idealize.SL.Sem Cert.KernelIdeal Cert.KernelIdeal.Gen Cert.Proof.Stores Cert.Proof.Block
  Cert.Proof.Algebra Cert.Proof.Chain Cert.Proof.Words Cert.Proof.Reference

variable (m : (ℓ : Loc nD τ sig) → Buf (Elt Ideal) ℓ) (d : Dev nD)

/-- Which block of `theta` a point reads. -/
theorem block_index : ∀ t : Fin cfg0.N, win0_0.index t = ![0, t.val, 0, 0] := by decide +kernel

/-- The array the region finds is `theta`, its rows numbered by chunk and by place in the chunk. -/
theorem entry_apply (c : Fin 8) (r : Fin 256) (i l : Fin 128) :
    V m d main_v0 (ix4 c r i l) = m ((d : Thread nD τ).loc main_arg0) (ix3 (Fin.ofNat 2048 (256 * c.val + r.val)) i l) := by
  entry_read
  pointwise
  exact congrArg (fun x => m ((d : Thread nD τ).loc main_arg0) (ix3 x i l)) (Fin.ext (show c.val * 256 + r.val = (256 * c.val + r.val) % 2048 by omega))

/-- The block of `theta` a point reads: sixteen rows of every chunk. -/
theorem block_apply (t : Fin cfg0.N) (c : Fin 8) (k : Fin 16) (i l : Fin 128) :
    iblk m d 0 t (ix4 c k i l) = m ((d : Thread nD τ).loc main_arg0) (ix3 (Fin.ofNat 2048 (256 * c.val + (16 * t.val + k.val))) i l) := by
  have hN := lt_of_lt_of_eq t.isLt (show cfg0.N = 16 from N_0)
  have h : iblk m d 0 t (ix4 c k i l) = V m d main_v0 (ix4 c ⟨16 * t.val + k.val, by omega⟩ i l) := by
    blk_ext [iblk, block_index t]
  exact h.trans (entry_apply m d c _ i l)

/-- The factor the shift puts on every matrix. -/
abbrev scale : ℝ := Real.exp (-shift)

/-- The products' entries over the blocks' rows: `k` more matrices on top of the first `n` of a chunk starting at row `s`. -/
theorem cell_product (θ : (⟨3, ![2048, 128, 128]⟩ : Shape).Idx → EReal) (hθ : ∀ x, θ x ≠ ⊤) (x : S8x16x128x128.Idx → EReal)
    (X : S8x128x128.Idx → EReal) (c : Fin 8) (s n : ℕ)
    (hx : ∀ (k : Fin 16) i l, x (ix4 c k i l) = θ (ix3 (Fin.ofNat 2048 (s + (n + k.val))) i l))
    (hX : ∀ i j, X (ix3 c i j) = (product scale (weights θ) s n i j : EReal)) :
    ∀ k, k ≤ 16 → ∀ i j, cell x X c k i j = (product scale (weights θ) s (n + k) i j : EReal)
  | 0, _, i, j => hX i j
  | k + 1, hk, i, j => by
    unfold cell
    rw [← Nat.add_assoc, product, coe_sum]
    refine Finset.sum_congr rfl fun l _ => ?_
    rw [cell_product θ hθ x X c s n hx hX k (Nat.le_of_succ_le hk) l j, hx, word_shift, exp_sub (hθ _), EReal.coe_mul,
      show (Fin.ofNat 16 k).val = k from Nat.mod_eq_of_lt hk]
    rfl

/-- The identity is the product of no matrices. -/
theorem eye_product (c : Fin 8) {q : ℝ} {e : ℕ → Fin 128 → Fin 128 → ℝ} {s : ℕ} (i j : Fin 128) :
    eye (ix3 c i j) = (product q e s 0 i j : EReal) := by
  unfold product
  by_cases h : i = j
  · rw [if_pos h, EReal.coe_one]; exact if_pos (congrArg Fin.val h)
  · rw [if_neg h, EReal.coe_zero]; exact if_neg fun e => h (Fin.ext e)

/-- What the first point leaves in the scratch, over its block. -/
theorem after_A (t : Fin cfg0.N) (ht : t.val = 0) (c : Fin 8) (i j : Fin 128) :
    (outsAt0 m d t.val t.isLt).2 (ix3 c i j) = cell (iblk m d 0 t) eye c 16 i j := by
  have h0 : t.val % 16 = 0 := by omega
  have h1 : ¬t.val % 16 = 15 := by omega
  rw [outsAt0_A m d t h0 h1]
  dsimp only
  exact scratch_A (ms0_0 t) (hs0_0 t) scM0_0 (Memref.isWhole_whole _) (iblk m d 0 t) d (grid0.coords t) (ms0_1 t) (hs0_1 t)
    ((hcond0_0 t).mpr h0) (fun h => h1 ((hcond0_1 t).mp h)) c i j

/-- What a point between the first and the last leaves in the scratch, over its block and what the point before left. -/
theorem after_B (t : Fin cfg0.N) (h0 : t.val ≠ 0) (h1 : t.val ≠ 15) (c : Fin 8) (i j : Fin 128) :
    (outsAt0 m d t.val t.isLt).2 (ix3 c i j)
      = cell (iblk m d 0 t) (outsAt0 m d (t.val - 1) (Nat.lt_of_le_of_lt (Nat.sub_le _ _) t.isLt)).2 c 16 i j := by
  have hN := lt_of_lt_of_eq t.isLt (show cfg0.N = 16 from N_0)
  have h0' : ¬t.val % 16 = 0 := by omega
  have h1' : ¬t.val % 16 = 15 := by omega
  rw [outsAt0_B m d t h0' h1']
  dsimp only
  exact scratch_B (ms0_0 t) (hs0_0 t) scM0_0 (Memref.isWhole_whole _) (iblk m d 0 t) d (grid0.coords t) (ms0_1 t) (hs0_1 t) _
    (fun h => h0' ((hcond0_0 t).mp h)) (fun h => h1' ((hcond0_1 t).mp h)) c i j

/-- What the points before, point by point: per chunk, the product of its first `16 (n + 1)` matrices. -/
theorem scratch_apply (hθ : ∀ x, m ((d : Thread nD τ).loc main_arg0) x ≠ (⊤ : EReal)) : ∀ (n : ℕ) (hn : n < cfg0.N), n < 15 → ∀ (c : Fin 8) (i j : Fin 128),
    (outsAt0 m d n hn).2 (ix3 c i j) = (product scale (weights (m ((d : Thread nD τ).loc main_arg0))) (256 * c.val) (16 * (n + 1)) i j : EReal)
  | 0, hn, _, c, i, j => (after_A m d ⟨0, hn⟩ rfl c i j).trans <|
    cell_product _ hθ _ _ c (256 * c.val) 0 (fun k i l => block_apply m d ⟨0, hn⟩ c k i l)
      (eye_product c) 16 (Nat.le_refl 16) i j
  | n + 1, hn, h, c, i, j => (after_B m d ⟨n + 1, hn⟩ (Nat.succ_ne_zero n) (Nat.ne_of_lt h) c i j).trans <|
    cell_product _ hθ _ _ c (256 * c.val) (16 * (n + 1)) (fun k i l => block_apply m d ⟨n + 1, hn⟩ c k i l)
      (fun i j => scratch_apply hθ n (Nat.lt_of_succ_lt hn) (Nat.lt_of_succ_lt h) c i j) 16 (Nat.le_refl 16) i j

end Cert.Proof.Sweep

end
-- ==== Proof.Result.lean ====
/- What the last point stores in the result, as a number.

   The column the last point carries and its running sum of logarithms stand for the vector of ones carried through the
   chunks' products; so the word it stores is the logarithm of the sum of the vector carried through all the matrices. -/
module

public import proofs.«01_k».proof.Proof.Finish
public import proofs.«01_k».proof.Proof.Sweep

@[expose] public section

set_option maxRecDepth 16384

noncomputable section

namespace Cert.Proof.Result

open Idealize.ShloMosaic Idealize.ShloMosaic.TcCoe Idealize.SL.Sem Cert.KernelIdeal Cert.KernelIdeal.Gen Cert.Proof.Finish
  Cert.Proof.Algebra Cert.Proof.Chain Cert.Proof.Words Cert.Proof.Reference Cert.Proof.Sweep

/-- A product of a slice with a column, entry by entry. -/
theorem times_apply (M : Vec Ideal S1x128x128 .bf16) (v : FVec Ideal S128x1 .f32) (i : Fin 128) :
    times M v (ix2 i 0) = ∑ j, M (ix3 0 i j) * v (ix2 j 0) := by
  unfold times
  pointwise

/-- The sum of a column's entries. -/
theorem total_apply (v : FVec Ideal S128x1 .f32) : total v = ∑ i, v (ix2 i 0) := by
  unfold total
  pointwise
  exact Finset.sum_congr rfl fun i _ => Fin.sum_univ_one _

/-- A column's entries divided by its greatest. -/
theorem scaled_apply (v : FVec Ideal S128x1 .f32) (i : Fin 128) : scaled v (ix2 i 0) = v (ix2 i 0) * Ideal.div 1 (greatest v) := by
  unfold scaled
  pointwise

/-- The greatest entry of a column is one of its entries, and no entry is above it. -/
theorem greatest_apply (v : FVec Ideal S128x1 .f32) : IsGreatestOf (greatest v) (fun i : Fin 128 => v (ix2 i 0)) := by
  obtain ⟨i₀, _, h₀⟩ := Finset.exists_max_image Finset.univ (fun i : Fin 128 => (v (ix2 i 0) : EReal)) ⟨0, Finset.mem_univ _⟩
  have h : greatest v = v (ix2 i₀ 0) := by
    unfold greatest
    pointwise
    rw [word_bot]
    exact le_antisymm (Finset.fold_max_le _ |>.mpr ⟨bot_le, fun p _ => h₀ p.1 (Finset.mem_univ _)⟩)
      (Finset.le_fold_max _ |>.mpr (.inr ⟨(i₀, 0), Finset.mem_univ _, le_refl _⟩))
  exact ⟨⟨i₀, h⟩, fun j => h ▸ h₀ j (Finset.mem_univ _)⟩

/-- A matrix's carried vector is nonnegative. -/
theorem carried_nonneg {M : ℕ → Fin 128 → Fin 128 → ℝ} (hM : ∀ n i j, 0 ≤ M n i j) : ∀ n i, 0 ≤ carried M n i
  | 0, _ => zero_le_one
  | n + 1, i => Finset.sum_nonneg fun j _ => mul_nonneg (hM n i j) (carried_nonneg hM n j)

/-- After `n` slices, the column and the running sum stand for the vector carried through the first `n` matrices. -/
theorem column_stands {M : ℕ → Fin 128 → Fin 128 → ℝ} (hM : ∀ n i j, 0 ≤ M n i j) (sl : ℕ → Vec Ideal S1x128x128 .bf16)
    (hsl : ∀ n, n < 8 → ∀ i j, sl n (ix3 0 i j) = (M n i j : EReal)) :
    ∀ n, n ≤ 8 → Stands (fun i => column sl n (ix2 i 0)) (logs sl n) (carried M n)
  | 0, _ => .inl ⟨fun _ => 1, 0, fun i => Ideal.ofBits_one_f32.trans EReal.coe_one.symm, Ideal.ofBits_zero_f32.trans EReal.coe_zero.symm,
      fun i => by rw [Real.exp_zero, mul_one]; rfl⟩
  | n + 1, hn => by
    have h := (column_stands hM sl hsl n (Nat.le_of_succ_le hn)).step (carried_nonneg hM n) (M n) (hM n)
      (fun i => times (sl n) (column sl n) (ix2 i 0))
      (fun i => (times_apply _ _ i).trans (Finset.sum_congr rfl fun j _ => congrArg (· * _) (hsl n hn i j)))
      (greatest (times (sl n) (column sl n))) (greatest_apply _)
    simp only [← scaled_apply] at h
    exact h

/-- The word stored, when the slices hold the chunks' products: the logarithm of the sum of the vector carried through all
    2048 matrices. -/
theorem answer_apply {e : ℕ → Fin 128 → Fin 128 → ℝ} (he : ∀ t i j, 0 ≤ e t i j) (sl : ℕ → Vec Ideal S1x128x128 .bf16)
    (hsl : ∀ n, n < 8 → ∀ i j, sl n (ix3 0 i j) = (product scale e (256 * n) 256 i j : EReal)) :
    answer sl = Ideal.log ((∑ i, state e 2048 i : ℝ) : EReal) := by
  have hM : ∀ n i j, 0 ≤ product scale e (256 * n) 256 i j := fun n => product_nonneg (Real.exp_pos _).le he _ 256
  have h : answer sl = Ideal.log (total (column sl 8)) + logs sl 8 + Ideal.ofBits .f32 0x462B43D5#32 := rfl
  rw [h, total_apply, (column_stands hM sl hsl 8 (Nat.le_refl 8)).log_sum (carried_nonneg hM 8),
    Finset.sum_congr rfl fun i _ => carried_products scale e 256 8 i, ← Finset.mul_sum, word_shifts]
  exact log_unscale shift 2048 (Finset.sum_nonneg fun i _ => state_nonneg he 2048 i)

/-- The slices the last point reads hold the chunks' products. -/
theorem slices_apply (m : (ℓ : Loc nD τ sig) → Buf (Elt Ideal) ℓ) (d : Dev nD) (t : Fin cfg0.N) (ht : t.val = 15)
    (hθ : ∀ x, m ((d : Thread nD τ).loc main_arg0) x ≠ (⊤ : EReal)) (n : ℕ) (hn : n < 8) (i j : Fin 128) :
    slices (ms0_0 t) (hs0_0 t) scM0_0 (Memref.isWhole_whole _) (iblk m d 0 t)
        (outsAt0 m d (t.val - 1) (Nat.lt_of_le_of_lt (Nat.sub_le _ _) t.isLt)).2 n (ix3 0 i j)
      = (product scale (weights (m ((d : Thread nD τ).loc main_arg0))) (256 * n) 256 i j : EReal) := by
  have hc : (Fin.ofNat 8 n).val = n := Nat.mod_eq_of_lt hn
  unfold slices
  rw [Block.slices_C]
  have h := cell_product _ hθ (iblk m d 0 t) (outsAt0 m d (t.val - 1) (Nat.lt_of_le_of_lt (Nat.sub_le _ _) t.isLt)).2 (Fin.ofNat 8 n)
    (256 * (Fin.ofNat 8 n).val) (16 * (t.val - 1 + 1)) (fun k i l => (block_apply m d t _ k i l).trans (by rw [show t.val - 1 + 1 = t.val by omega]))
    (fun i j => scratch_apply m d hθ (t.val - 1) _ (by omega) _ i j) 16 (Nat.le_refl 16) i j
  rwa [hc, show 16 * (t.val - 1 + 1) + 16 = 256 by omega] at h

end Cert.Proof.Result

end
-- ==== Proof.Written.lean ====
/- What the kernel's result holds after the run: only the last point writes it back, and what it writes is the word its
   body stored. -/
module

public import proofs.«01_k».proof.Proof.Result

@[expose] public section

set_option maxRecDepth 16384

noncomputable section

namespace Cert.Proof.Written

open Idealize.ShloMosaic Idealize.ShloMosaic.TcCoe Idealize.SL.Sem Cert.KernelIdeal Cert.KernelIdeal.Gen Cert.Proof.Finish
  Cert.Proof.Chain Cert.Proof.Reference Cert.Proof.Result

/-- The number both programs compute: the logarithm of the sum of the vector carried through all 2048 matrices of weights. -/
def logZ (θ : (⟨3, ![2048, 128, 128]⟩ : Shape).Idx → EReal) : EReal := Ideal.log ((∑ i, state (weights θ) 2048 i : ℝ) : EReal)

/-- The one store made in the result, read back. -/
theorem stored_word (w : Elt Ideal .f32) (y : S1.Idx) :
    View.canon (Val := Elt Ideal) (s := S1) (e := .f32) [⟨Rect.unit (s := S1) ![0] ![1] inb_S1_S1_0, fun _ => w⟩] y = w := by
  have h : y = (Rect.unit (s := S1) ![0] ![1] inb_S1_S1_0).emb (ix1 0) := funext fun a => Fin.ext (by
    have hy : (y 0).val < 1 := (y 0).isLt
    match a with
    | ⟨0, _⟩ => show (y 0).val = 0 + 1 * 0; omega)
  rw [h, View.canon_cons_emb]

variable (m : (ℓ : Loc nD τ sig) → Buf (Elt Ideal) ℓ) (d : Dev nD)

/-- What the last point's body leaves in the result's block. -/
theorem last_apply (hθ : ∀ x, m ((d : Thread nD τ).loc main_arg0) x ≠ (⊤ : EReal)) (t : Fin cfg0.N) (ht : t.val % 16 = 15) (y : S1.Idx) :
    (outsAt0 m d t.val t.isLt).1 y = logZ (m ((d : Thread nD τ).loc main_arg0)) := by
  have hN := lt_of_lt_of_eq t.isLt (show cfg0.N = 16 from N_0)
  have h0 : ¬t.val % 16 = 0 := by omega
  rw [outsAt0_C m d t h0 ht]
  dsimp only
  unfold out0_C_1
  rw [View.read_writes_eq_canon _ _ _ (cover0_C_1 d _ _ _ _ _ _ _ _ _ _ _), result_C, stored_word]
  exact answer_apply (weights_nonneg _) _ (slices_apply m d t (by omega) hθ)

/-- The kernel's result after the run. -/
theorem result_eq (hθ : ∀ x, m ((d : Thread nD τ).loc main_arg0) x ≠ (⊤ : EReal)) :
    (dats m 0 d).arrAt 1 cfg0.N = fun _ => logZ (m ((d : Thread nD τ).loc main_arg0)) := by
  refine (dats m 0 d).arrAt_eq_of_covers 1 _ (by decide +kernel) fun t hf y => ?_
  rw [after0_1]
  exact last_apply m d hθ t ((flush0_1 t).mp hf) _

end Cert.Proof.Written

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.StepRun
public import proofs.«01_k».proof.Proof.Written
public import Idealize.ShloMosaic.Lib.Quiescent

@[expose] public section

noncomputable section

namespace Cert.Proof

open Idealize.ShloMosaic Idealize.SL.Sem Cert.Proof.Reference Cert.Proof.Written

/-- The shape fact the precondition states. -/
theorem pre_facts : Cert.Pre_below_inf.Facts := ⟨by decide⟩

/-- The precondition, entry by entry. -/
theorem below_inf [Cert.Pre_below_inf.Facts] {θ : FVec Ideal Cert.Pre_below_inf.S2048x128x128 .f32} {z : IVec Cert.Pre_below_inf.S2048 32}
    (h : Cert.Pre_below_inf.fn θ z = fun _ => 1#1) (x : Cert.Pre_below_inf.S2048x128x128.Idx) : θ x ≠ (⊤ : EReal) := fun e => by
  have hx : BitVec.ofBool (decide ((θ x : EReal) < Ideal.ofBits .f32 0x7F800000#32)) = 1#1 := congrFun h x
  rw [e, Words.word_top, decide_eq_false (lt_irrefl _)] at hx
  exact absurd hx (by decide)

/-- Every run of the reference ends with its arguments as they were and no semaphore held. -/
theorem reference_frame : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Where no entry of `theta` is +∞, the kernel's result is the reference's. -/
theorem equal_results [hp : Cert.Pre_below_inf.Facts] :
    Cert.algebraic_KernelIdeal_ReferenceIdeal_pre_below_inf (hKernelIdeal := Cert.KernelIdeal.Gen.facts)
      (hReferenceIdeal := Cert.ReferenceIdeal.Gen.facts) := by
  intro m g m' g' hpre hagree
  refine ⟨fun c _ => logZ (m ((c.tc : Thread Cert.KernelIdeal.nD Cert.KernelIdeal.τ).loc Cert.KernelIdeal.main_arg0)), ?_, ?_⟩
  · refine (θ_run Cert.KernelIdeal.defs _ _).mono (fun r h c => ⟨(h c).1.trans ?_, (h c).2⟩) (Cert.KernelIdeal.Value.run_blocks m g)
    exact result_eq m c fun x => below_inf (hpre c) x
  · refine (θ_run Cert.ReferenceIdeal.defs _ _).mono (fun r h c => ⟨(h c).1.trans ?_, (h c).2⟩)
      (Cert.ReferenceIdeal.StepRun.run_iter m' g' (fun c => states (m' ((c.tc : Thread Cert.ReferenceIdeal.nD Cert.ReferenceIdeal.τ).loc Cert.ReferenceIdeal.main_arg0)))
        (fun _ => rfl) (fun _ _ => rfl))
    rw [(hagree c).1]
    funext i
    rw [eq_ix1 i]
    exact result_apply _ (fun x => below_inf (hpre c) x) _

/-- All that is claimed. -/
theorem claim : Cert.Claim :=
  ⟨Cert.Kernel.Gen.facts, Cert.KernelIdeal.Gen.facts, Cert.ReferenceIdeal.Gen.facts, pre_facts,
    fun m g _ => Cert.Kernel.Gen.frame m g, fun m g _ => Cert.KernelIdeal.Gen.frame m g, fun m g _ => Cert.KernelIdeal.Gen.frame m g,
    reference_frame, fun m g _ => reference_frame m g trivial, trivial, equal_results (hp := pre_facts)⟩

end Cert.Proof

end
